-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x48x256x256 : Shape := ⟨4, ![8, 48, 256, 256]⟩
abbrev S8x144x256x256 : Shape := ⟨4, ![8, 144, 256, 256]⟩
abbrev S192 : Shape := ⟨1, ![192]⟩
abbrev S192x192 : Shape := ⟨2, ![192, 192]⟩
abbrev S_ : Shape := ⟨0, ![]⟩
abbrev S192x1x192 : Shape := ⟨3, ![192, 1, 192]⟩
abbrev S192x8x192 : Shape := ⟨3, ![192, 8, 192]⟩
abbrev S1536x192 : Shape := ⟨2, ![1536, 192]⟩
abbrev S192x1536 : Shape := ⟨2, ![192, 1536]⟩
abbrev S192x1x1536 : Shape := ⟨3, ![192, 1, 1536]⟩
abbrev S192x8x1536 : Shape := ⟨3, ![192, 8, 1536]⟩
abbrev S1536x1536 : Shape := ⟨2, ![1536, 1536]⟩
abbrev S192x8 : Shape := ⟨2, ![192, 8]⟩
abbrev S1536 : Shape := ⟨1, ![1536]⟩
abbrev S1536x1 : Shape := ⟨2, ![1536, 1]⟩
abbrev S1536x256 : Shape := ⟨2, ![1536, 256]⟩
abbrev S1x48x64x256 : Shape := ⟨4, ![1, 48, 64, 256]⟩
abbrev S1x144x64x256 : Shape := ⟨4, ![1, 144, 64, 256]⟩
abbrev S1x48x8x256 : Shape := ⟨4, ![1, 48, 8, 256]⟩
abbrev S48x8x256 : Shape := ⟨3, ![48, 8, 256]⟩
abbrev S384x256 : Shape := ⟨2, ![384, 256]⟩
abbrev S1x144x8x256 : Shape := ⟨4, ![1, 144, 8, 256]⟩
abbrev S144x8x256 : Shape := ⟨3, ![144, 8, 256]⟩
abbrev S1152x256 : Shape := ⟨2, ![1152, 256]⟩

abbrev nBuf : Space → Nat
  | .hbm => 49
  | .vmem => 10
  | .smem => 0
  | _ => 0

abbrev bufTy : (tb : Table) → Fin (tcTables nBuf tb) → BufTy
  | .hbm, ⟨0, _⟩ => ⟨S8x48x256x256, .f32⟩
  | .hbm, ⟨1, _⟩ => ⟨S8x144x256x256, .f32⟩
  | .hbm, ⟨2, _⟩ => ⟨S192, .f32⟩
  | .hbm, ⟨3, _⟩ => ⟨S192x192, .f32⟩
  | .hbm, ⟨4, _⟩ => ⟨S_, .f32⟩
  | .hbm, ⟨5, _⟩ => ⟨S192x192, .f32⟩
  | .hbm, ⟨6, _⟩ => ⟨S192x192, .f32⟩
  | .hbm, ⟨7, _⟩ => ⟨S192x192, .f32⟩
  | .hbm, ⟨8, _⟩ => ⟨S_, .f32⟩
  | .hbm, ⟨9, _⟩ => ⟨S192x192, .f32⟩
  | .hbm, ⟨10, _⟩ => ⟨S192x192, .f32⟩
  | .hbm, ⟨11, _⟩ => ⟨S192x192, .f32⟩
  | .hbm, ⟨12, _⟩ => ⟨S192x1x192, .f32⟩
  | .hbm, ⟨13, _⟩ => ⟨S192x8x192, .f32⟩
  | .hbm, ⟨14, _⟩ => ⟨S1536x192, .f32⟩
  | .hbm, ⟨15, _⟩ => ⟨S192x1536, .f32⟩
  | .hbm, ⟨16, _⟩ => ⟨S192x1x1536, .f32⟩
  | .hbm, ⟨17, _⟩ => ⟨S192x8x1536, .f32⟩
  | .hbm, ⟨18, _⟩ => ⟨S1536x1536, .f32⟩
  | .hbm, ⟨19, _⟩ => ⟨S1536x1536, .i32⟩
  | .hbm, ⟨20, _⟩ => ⟨S1536x1536, .i32⟩
  | .hbm, ⟨21, _⟩ => ⟨S_, .i32⟩
  | .hbm, ⟨22, _⟩ => ⟨S1536x1536, .i32⟩
  | .hbm, ⟨23, _⟩ => ⟨S1536x1536, .i32⟩
  | .hbm, ⟨24, _⟩ => ⟨S_, .i32⟩
  | .hbm, ⟨25, _⟩ => ⟨S1536x1536, .i32⟩
  | .hbm, ⟨26, _⟩ => ⟨S1536x1536, .i32⟩
  | .hbm, ⟨27, _⟩ => ⟨S1536x1536, .i1⟩
  | .hbm, ⟨28, _⟩ => ⟨S_, .f32⟩
  | .hbm, ⟨29, _⟩ => ⟨S_, .f32⟩
  | .hbm, ⟨30, _⟩ => ⟨S1536x1536, .f32⟩
  | .hbm, ⟨31, _⟩ => ⟨S1536x1536, .f32⟩
  | .hbm, ⟨32, _⟩ => ⟨S1536x1536, .bf16⟩
  | .hbm, ⟨33, _⟩ => ⟨S_, .f32⟩
  | .hbm, ⟨34, _⟩ => ⟨S192, .f32⟩
  | .hbm, ⟨35, _⟩ => ⟨S192, .f32⟩
  | .hbm, ⟨36, _⟩ => ⟨S192, .f32⟩
  | .hbm, ⟨37, _⟩ => ⟨S_, .f32⟩
  | .hbm, ⟨38, _⟩ => ⟨S192, .f32⟩
  | .hbm, ⟨39, _⟩ => ⟨S192, .f32⟩
  | .hbm, ⟨40, _⟩ => ⟨S_, .f32⟩
  | .hbm, ⟨41, _⟩ => ⟨S192, .f32⟩
  | .hbm, ⟨42, _⟩ => ⟨S192, .f32⟩
  | .hbm, ⟨43, _⟩ => ⟨S192x8, .f32⟩
  | .hbm, ⟨44, _⟩ => ⟨S1536, .f32⟩
  | .hbm, ⟨45, _⟩ => ⟨S1536x1, .f32⟩
  | .hbm, ⟨46, _⟩ => ⟨S1536x256, .f32⟩
  | .hbm, ⟨47, _⟩ => ⟨S8x48x256x256, .f32⟩
  | .hbm, ⟨48, _⟩ => ⟨S8x144x256x256, .f32⟩
  | .local _ .vmem, ⟨0, _⟩ => ⟨S1x48x64x256, .f32⟩
  | .local _ .vmem, ⟨1, _⟩ => ⟨S1x48x64x256, .f32⟩
  | .local _ .vmem, ⟨2, _⟩ => ⟨S1x144x64x256, .f32⟩
  | .local _ .vmem, ⟨3, _⟩ => ⟨S1x144x64x256, .f32⟩
  | .local _ .vmem, ⟨4, _⟩ => ⟨S1536x256, .f32⟩
  | .local _ .vmem, ⟨5, _⟩ => ⟨S1536x1536, .bf16⟩
  | .local _ .vmem, ⟨6, _⟩ => ⟨S1x48x64x256, .f32⟩
  | .local _ .vmem, ⟨7, _⟩ => ⟨S1x48x64x256, .f32⟩
  | .local _ .vmem, ⟨8, _⟩ => ⟨S1x144x64x256, .f32⟩
  | .local _ .vmem, ⟨9, _⟩ => ⟨S1x144x64x256, .f32⟩
  | _, _ => ⟨S8x48x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x48x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x48x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x144x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x48x256x256 : Shape := ⟨4, ![8, 48, 256, 256]⟩
abbrev S8x144x256x256 : Shape := ⟨4, ![8, 144, 256, 256]⟩
abbrev S192 : Shape := ⟨1, ![192]⟩
abbrev S192x192 : Shape := ⟨2, ![192, 192]⟩
abbrev S_ : Shape := ⟨0, ![]⟩
abbrev S8x192x256x256 : Shape := ⟨4, ![8, 192, 256, 256]⟩
abbrev S8x256x256x192 : Shape := ⟨4, ![8, 256, 256, 192]⟩
abbrev S1x192x1x1 : Shape := ⟨4, ![1, 192, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x48x256x256, .f32⟩
  | .hbm, ⟨1, _⟩ => ⟨S8x144x256x256, .f32⟩
  | .hbm, ⟨2, _⟩ => ⟨S192, .f32⟩
  | .hbm, ⟨3, _⟩ => ⟨S192x192, .f32⟩
  | .hbm, ⟨4, _⟩ => ⟨S8x48x256x256, .f32⟩
  | .hbm, ⟨5, _⟩ => ⟨S8x144x256x256, .f32⟩
  | .hbm, ⟨6, _⟩ => ⟨S_, .f32⟩
  | .hbm, ⟨7, _⟩ => ⟨S192, .f32⟩
  | .hbm, ⟨8, _⟩ => ⟨S192, .f32⟩
  | .hbm, ⟨9, _⟩ => ⟨S192, .f32⟩
  | .hbm, ⟨10, _⟩ => ⟨S_, .f32⟩
  | .hbm, ⟨11, _⟩ => ⟨S192, .f32⟩
  | .hbm, ⟨12, _⟩ => ⟨S192, .f32⟩
  | .hbm, ⟨13, _⟩ => ⟨S_, .f32⟩
  | .hbm, ⟨14, _⟩ => ⟨S192x192, .f32⟩
  | .hbm, ⟨15, _⟩ => ⟨S192x192, .f32⟩
  | .hbm, ⟨16, _⟩ => ⟨S192x192, .f32⟩
  | .hbm, ⟨17, _⟩ => ⟨S_, .f32⟩
  | .hbm, ⟨18, _⟩ => ⟨S192x192, .f32⟩
  | .hbm, ⟨19, _⟩ => ⟨S192x192, .f32⟩
  | .hbm, ⟨20, _⟩ => ⟨S8x48x256x256, .f32⟩
  | .hbm, ⟨21, _⟩ => ⟨S8x144x256x256, .f32⟩
  | .hbm, ⟨22, _⟩ => ⟨S8x192x256x256, .f32⟩
  | .hbm, ⟨23, _⟩ => ⟨S8x256x256x192, .f32⟩
  | .hbm, ⟨24, _⟩ => ⟨S8x192x256x256, .f32⟩
  | .hbm, ⟨25, _⟩ => ⟨S1x192x1x1, .f32⟩
  | .hbm, ⟨26, _⟩ => ⟨S_, .f32⟩
  | .hbm, ⟨27, _⟩ => ⟨S1x192x1x1, .f32⟩
  | .hbm, ⟨28, _⟩ => ⟨S1x192x1x1, .f32⟩
  | .hbm, ⟨29, _⟩ => ⟨S8x192x256x256, .f32⟩
  | .hbm, ⟨30, _⟩ => ⟨S8x192x256x256, .f32⟩
  | .hbm, ⟨31, _⟩ => ⟨S8x192x256x256, .f32⟩
  | .hbm, ⟨32, _⟩ => ⟨S8x192x256x256, .f32⟩
  | .hbm, ⟨33, _⟩ => ⟨S8x48x256x256, .f32⟩
  | .hbm, ⟨34, _⟩ => ⟨S8x48x256x256, .f32⟩
  | .hbm, ⟨35, _⟩ => ⟨S8x144x256x256, .f32⟩
  | .hbm, ⟨36, _⟩ => ⟨S8x144x256x256, .f32⟩
  | _, _ => ⟨S8x48x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Scalar.lean ====
/- The scalars of the normalization: what its constants are as real numbers, the sign of the pooled sum, and the one
   law the claim rests on, that multiplying by a reciprocal square root is dividing by the square root. -/
module

public import Idealize.ShloMosaic.PureOps.Ideal

@[expose] public section

noncomputable section

namespace Cert.Norm

open Idealize.ShloMosaic

/-- A weight of the pool: the trained number, kept at least `2⁻¹⁸`, squared, less `2⁻³⁶`. -/
def weight (t : EReal) : EReal :=
  max t (Ideal.ofBits .f32 0x36800000#32) * max t (Ideal.ofBits .f32 0x36800000#32) - Ideal.ofBits .f32 0x2D800000#32

/-- A bias of the pool: twice the trained number, kept at least the float nearest `√(10⁻⁶ + 2⁻³⁵)`, squared, less `2⁻³⁶`. -/
def offset (t : EReal) : EReal :=
  Ideal.ofBits .f32 0x40000000#32
    * (max t (Ideal.ofBits .f32 0x3A8312EC#32) * max t (Ideal.ofBits .f32 0x3A8312EC#32) - Ideal.ofBits .f32 0x2D800000#32)

/-- The float a weight is kept above is `2⁻¹⁸`. -/
theorem weightBound : Ideal.ofBits .f32 0x36800000#32 = (((2 : ℝ) ^ (-18 : ℤ) : ℝ) : EReal) := by
  simp [Ideal.ofBits, Ideal.ieee, -EReal.coe_mul]; norm_num

/-- The float both squares are lowered by is `2⁻³⁶`. -/
theorem pedestal : Ideal.ofBits .f32 0x2D800000#32 = (((2 : ℝ) ^ (-36 : ℤ) : ℝ) : EReal) := by
  simp [Ideal.ofBits, Ideal.ieee, -EReal.coe_mul]; norm_num

/-- The float the bias is doubled by is 2. -/
theorem two : Ideal.ofBits .f32 0x40000000#32 = ((2 : ℝ) : EReal) := by
  simp [Ideal.ofBits, Ideal.ieee, -EReal.coe_mul]; norm_num

/-- The exact value of the float a bias is kept above. -/
theorem offsetBound : Ideal.ofBits .f32 0x3A8312EC#32 = (((8590060 : ℝ) * (2 : ℝ) ^ (-33 : ℤ) : ℝ) : EReal) := by
  simp [Ideal.ofBits, Ideal.ieee, -EReal.coe_mul]

/-- `max t u ² − p` for real `u > 0` and `p < u²`: at least the real number `u² − p`, whatever `t` is. -/
theorem sq_sub_ge (t : EReal) (u p : ℝ) (hu : 0 < u) :
    ((u * u - p : ℝ) : EReal) ≤ max t (u : EReal) * max t (u : EReal) - (p : EReal) := by
  rw [EReal.coe_sub, EReal.coe_mul]
  have h0 : (0 : EReal) ≤ (u : EReal) := by exact_mod_cast hu.le
  exact EReal.sub_le_sub (mul_le_mul (le_max_right _ _) (le_max_right _ _) h0 (h0.trans (le_max_right _ _))) le_rfl

/-- No weight is negative. -/
theorem weight_nonneg (t : EReal) : 0 ≤ weight t := by
  unfold weight
  rw [weightBound, pedestal]
  refine le_trans ?_ (sq_sub_ge t _ _ (by positivity))
  norm_num

/-- Every bias is positive. -/
theorem offset_pos (t : EReal) : 0 < offset t := by
  unfold offset
  rw [offsetBound, pedestal, two]
  refine EReal.mul_pos (by norm_num) (lt_of_lt_of_le ?_ (sq_sub_ge t _ _ (by positivity)))
  norm_num

/-- A square of an extended real is not negative. -/
theorem sq_nonneg (x : EReal) : 0 ≤ x * x := by
  induction x with
  | bot => simp
  | top => simp
  | coe r => exact_mod_cast mul_self_nonneg r

/-- Sums of squares times weights, plus an offset, are positive. -/
theorem pool_pos {n k : ℕ} (u : Fin n → EReal) (v : Fin k → EReal) (r : Fin n → EReal) (s : Fin k → EReal) (t : EReal) :
    0 < (∑ i, u i * u i * weight (r i)) + (∑ j, v j * v j * weight (s j)) + offset t := by
  refine lt_of_lt_of_le (offset_pos t) (le_add_of_nonneg_left (add_nonneg ?_ ?_))
  · exact Finset.sum_nonneg fun i _ => mul_nonneg (sq_nonneg _) (weight_nonneg _)
  · exact Finset.sum_nonneg fun i _ => mul_nonneg (sq_nonneg _) (weight_nonneg _)

/-- Multiplying by the reciprocal square root of a positive number, `⊤` allowed, is dividing by its square root. -/
theorem mul_rsqrt (x n : EReal) (hn : 0 < n) : x * Ideal.rsqrt n = Ideal.div x (Ideal.sqrt n) := by
  induction n with
  | bot => simp at hn
  | top => simp [Ideal.div]
  | coe r =>
    have hr : 0 < r := by exact_mod_cast hn
    have hs : (Real.sqrt r : EReal) ≠ 0 := by
      exact_mod_cast (Real.sqrt_pos.mpr hr).ne'
    rw [Ideal.rsqrt_coe, Ideal.sqrt_coe, if_neg hr.not_gt, if_neg hr.ne', if_neg hr.not_gt, Ideal.div, if_neg hs,
      EReal.coe_inv]

/-- The absolute value of a positive number is that number. -/
theorem abs_of_pos (n : EReal) (hn : 0 < n) : FloatOps.absf (F := Ideal) (φ := .f32) n = n := by
  show max n (-n) = n
  refine max_eq_left (le_trans ?_ hn.le)
  simpa using EReal.neg_le_neg_iff.mpr hn.le

end Cert.Norm
-- ==== Proof.Host.lean ====
/- The two arrays the host prepares for the kernel: the big matrix and the bias, at one index. -/
module

public import proofs.«01_k».proof.Proof.Gen.KernelIdeal.Frame
public import proofs.«01_k».proof.Proof.Scalar
public import Idealize.ShloMosaic.Lib.Pointwise
public import Idealize.ShloMosaic.Lib.Claim

@[expose] public section

set_option maxRecDepth 16384

noncomputable section

namespace Cert.KernelIdeal.Prep

open Idealize.ShloMosaic Idealize.ShloMosaic.TcCoe Idealize.SL.Sem
open Cert.KernelIdeal Cert.KernelIdeal.Gen

/-- The low three bits of a small number are its remainder by eight. -/
theorem low_bits (n : ℕ) (hn : n < 1536) : BitVec.ofNat 32 n &&& 7#32 = BitVec.ofNat 32 (n % 8) := by
  apply BitVec.eq_of_toNat_eq
  rw [BitVec.toNat_and, BitVec.toNat_ofNat, BitVec.toNat_ofNat, BitVec.toNat_ofNat, Nat.mod_eq_of_lt (by omega : n < 2 ^ 32),
    Nat.mod_eq_of_lt (by omega : n % 8 < 2 ^ 32)]
  exact Nat.and_two_pow_sub_one_eq_mod n 3

/-- The host's test for the tile's diagonal, on words, is the test on numbers. -/
theorem same_row (i k : ℕ) (hi : i < 1536) (hk : k < 1536) :
    IntOp.cmpi CmpIPredicate.eq (IntOp.andi (BitVec.ofNat 32 i) 7#32) (IntOp.andi (BitVec.ofNat 32 k) 7#32) = 1
      ↔ i % 8 = k % 8 := by
  have hw (n : ℕ) (hn : n < 1536) : IntOp.andi (BitVec.ofNat 32 n) 7#32 = BitVec.ofNat 32 (n % 8) := low_bits n hn
  rw [hw i hi, hw k hk]
  constructor
  · intro h
    by_contra hne
    have hb : BitVec.ofNat 32 (i % 8) ≠ BitVec.ofNat 32 (k % 8) := fun e => hne (by
      have := congrArg BitVec.toNat e
      simp only [BitVec.toNat_ofNat] at this
      omega)
    simp only [IntOp.cmpi] at h
    rw [beq_eq_false_iff_ne.mpr hb] at h
    exact absurd h (by decide)
  · intro h
    rw [h]
    simp [IntOp.cmpi]

/-- The big matrix the host builds of the trained weights: each weight repeated over an eight by eight tile, kept on the
    tile's diagonal. -/
def matrixOf (x3 : FVec Ideal S192x192 .f32) : FVec Ideal S1536x1536 .bf16 :=
  have b : FVec Ideal S192x192 .f32 := maximumf x3 (broadcastInDim S192x192 ![] bcast_S_S192x192 (constant S_ .f32 0x36800000#32))
  have g : FVec Ideal S192x192 .f32 := subf (mulf b b) (broadcastInDim S192x192 ![] bcast_S_S192x192 (constant S_ .f32 0x2D800000#32))
  have r : FVec Ideal S1536x192 .f32 := shapeCast S1536x192
    (broadcastInDim S192x8x192 ![0, 1, 2] bcast_S192x1x192_S192x8x192_0_1_2
      (broadcastInDim S192x1x192 ![0, 2] bcast_S192x192_S192x1x192_0_2
        (transpose S192x192 [1, 0] g transposes_S192x192_S192x192_1_0))) shapeCasts_S192x8x192_S1536x192
  have t : FVec Ideal S1536x1536 .f32 := shapeCast S1536x1536
    (broadcastInDim S192x8x1536 ![0, 1, 2] bcast_S192x1x1536_S192x8x1536_0_1_2
      (broadcastInDim S192x1x1536 ![0, 2] bcast_S192x1536_S192x1x1536_0_2
        (transpose S192x1536 [1, 0] r transposes_S1536x192_S192x1536_1_0))) shapeCasts_S192x8x1536_S1536x1536
  truncf .bf16 (select
    (cmpi CmpIPredicate.eq
      (andi (iotaInDim S1536x1536 32 0) (broadcastInDim S1536x1536 ![] bcast_S_S1536x1536 (constantI S_ 32 7#32)))
      (andi (iotaInDim S1536x1536 32 1) (broadcastInDim S1536x1536 ![] bcast_S_S1536x1536 (constantI S_ 32 7#32))))
    t (broadcastInDim S1536x1536 ![] bcast_S_S1536x1536 (constant S_ .f32 0x00000000#32))) bitsLt_bf16_f32

/-- The bias the host builds of the trained numbers: each repeated over the eight rows of a slab and every lane. -/
def biasOf (x2 : FVec Ideal S192 .f32) : FVec Ideal S1536x256 .f32 :=
  have b : FVec Ideal S192 .f32 := maximumf x2 (broadcastInDim S192 ![] bcast_S_S192 (constant S_ .f32 0x3A8312EC#32))
  have d : FVec Ideal S192 .f32 := mulf (broadcastInDim S192 ![] bcast_S_S192 (constant S_ .f32 0x40000000#32))
    (subf (mulf b b) (broadcastInDim S192 ![] bcast_S_S192 (constant S_ .f32 0x2D800000#32)))
  broadcastInDim S1536x256 ![0, 1] bcast_S1536x1_S1536x256_0_1 (broadcastInDim S1536x1 ![0] bcast_S1536_S1536x1_0
    (shapeCast S1536 (broadcastInDim S192x8 ![0] bcast_S192_S192x8_0 d) shapeCasts_S192x8_S1536))

/-- The big matrix at row `i`, column `k`: the pool's weight between their channels where the two stand at the same row
    of a slab, and zero elsewhere. -/
theorem matrix_at (x3 : FVec Ideal S192x192 .f32) (i k : Fin 1536) :
    matrixOf x3 (ix2 i k)
      = if (i : ℕ) % 8 = k % 8 then Norm.weight (x3 (ix2 ⟨i / 8, by omega⟩ ⟨k / 8, by omega⟩)) else (0 : EReal) := by
  pointwise [matrixOf]
  unfold Scalar.select Norm.weight
  exact if_congr (same_row i k i.isLt k.isLt) rfl rfl

/-- The bias at row `i`, any lane: the pool's offset of the row's channel. -/
theorem bias_at (x2 : FVec Ideal S192 .f32) (i : Fin 1536) (w : Fin 256) :
    biasOf x2 (ix2 i w) = Norm.offset (x2 (ix1 ⟨i / 8, by omega⟩)) := by
  pointwise [biasOf]
  unfold Norm.offset
  rfl

variable (m : (ℓ : Loc nD τ sig) → Buf (Elt Ideal) ℓ)

/-- The array the host hands the kernel as its matrix is the big matrix of the weights' argument. -/
theorem matrix (c : Dev nD) : V m c main_v21 = matrixOf (m ((c : Thread nD τ).loc main_arg3)) := by
  simp only [V, hostOps0, hostOps0_1, hostOps0_2, List.flatten_cons, List.flatten_nil, List.append_nil, List.cons_append,
    List.nil_append]
  after_results
  simp -implicitDefEqProofs only [StableHlo.TRef.toBuf, StableHlo.TRef.ofBuf, cast_cast, cast_eq, id]
  rfl

/-- The array the host hands the kernel as its bias is the spread-out bias of the offsets' argument. -/
theorem bias (c : Dev nD) : V m c main_v32 = biasOf (m ((c : Thread nD τ).loc main_arg2)) := by
  simp only [V, hostOps0, hostOps0_1, hostOps0_2, List.flatten_cons, List.flatten_nil, List.append_nil, List.cons_append,
    List.nil_append]
  after_results
  rfl

end Cert.KernelIdeal.Prep
-- ==== Proof.Slab.lean ====
/- One slab of the kernel's block: eight rows of the picture, every channel of it. -/
module

public import proofs.«01_k».proof.Proof.Gen.KernelIdeal.Skeleton
public import Idealize.ShloMosaic.Lib.Pointwise

@[expose] public section

set_option maxRecDepth 16384

noncomputable section

namespace Cert.KernelIdeal.Slab

open Idealize.ShloMosaic Idealize.ShloMosaic.TcCoe Idealize.SL.Sem
open Cert.KernelIdeal Cert.KernelIdeal.Gen

/-- What the kernel divides by, before its square root, at row `i` of its big matrix and lane `w`: row `i` of the
    matrix against the squares of the slab's `tanh`s (the 384 rows of the first input, then the 1152 of the second),
    plus the bias there, in absolute value. -/
def norm (a : FVec Ideal S1x48x8x256 .f32) (b : FVec Ideal S1x144x8x256 .f32)
    (g : FVec Ideal S1536x1536 .bf16) (q : FVec Ideal S1536x256 .f32) (i : Fin 1536) (w : Fin 256) : EReal :=
  FloatOps.absf (F := Ideal) (φ := .f32)
    ((∑ x : Fin 384, g (ix2 i ⟨x, by omega⟩)
        * (Ideal.tanh (a (ix4 0 ⟨x / 8, by omega⟩ ⟨x % 8, by omega⟩ w))
          * Ideal.tanh (a (ix4 0 ⟨x / 8, by omega⟩ ⟨x % 8, by omega⟩ w))))
      + (∑ x : Fin 1152, g (ix2 i ⟨384 + x, by omega⟩)
        * (Ideal.tanh (b (ix4 0 ⟨x / 8, by omega⟩ ⟨x % 8, by omega⟩ w))
          * Ideal.tanh (b (ix4 0 ⟨x / 8, by omega⟩ ⟨x % 8, by omega⟩ w))))
      + q (ix2 i w))

/-- The slab's first result at channel `c`, row `h`, lane `w`. -/
theorem high (a : FVec Ideal S1x48x8x256 .f32) (b : FVec Ideal S1x144x8x256 .f32)
    (g : FVec Ideal S1536x1536 .bf16) (q : FVec Ideal S1536x256 .f32) (c : Fin 48) (h : Fin 8) (w : Fin 256) :
    k0_pay6 (F := Ideal) a b g q (ix4 0 c h w)
      = Ideal.tanh (a (ix4 0 c h w)) * Ideal.rsqrt (norm a b g q ⟨c * 8 + h, by omega⟩ w) := by
  pointwise [k0_pay6, k0_pay5, k0_pay3, k0_pay4, norm]

/-- The slab's second result at channel `c`, row `h`, lane `w`: its rows of the big matrix follow the first's 384. -/
theorem low (a : FVec Ideal S1x48x8x256 .f32) (b : FVec Ideal S1x144x8x256 .f32)
    (g : FVec Ideal S1536x1536 .bf16) (q : FVec Ideal S1536x256 .f32) (c : Fin 144) (h : Fin 8) (w : Fin 256) :
    k0_pay7 (F := Ideal) a b g q (ix4 0 c h w)
      = Ideal.tanh (b (ix4 0 c h w)) * Ideal.rsqrt (norm a b g q ⟨384 + (c * 8 + h), by omega⟩ w) := by
  pointwise [k0_pay7, k0_pay5, k0_pay3, k0_pay4, norm]

end Cert.KernelIdeal.Slab
-- ==== Proof.Block.lean ====
/- What the body leaves in its two output blocks, read at one index of the block. -/
module

public import proofs.«01_k».proof.Proof.Gen.KernelIdeal.Frame
public import proofs.«01_k».proof.Proof.Slab
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen

/-- The slab of the first input's block that holds row `r`: rows `8 (r / 8)` to `8 (r / 8) + 7`. -/
def slabH (a : FVec Ideal S1x48x64x256 .f32) (r : Fin 64) : FVec Ideal S1x48x8x256 .f32 :=
  fun x => a (ix4 0 (x 1) ⟨r / 8 * 8 + x 2, by have h : (x 2 : ℕ) < 8 := (x 2).isLt; omega⟩ (x 3))

/-- The slab of the second input's block that holds row `r`. -/
def slabL (b : FVec Ideal S1x144x64x256 .f32) (r : Fin 64) : FVec Ideal S1x144x8x256 .f32 :=
  fun x => b (ix4 0 (x 1) ⟨r / 8 * 8 + x 2, by have h : (x 2 : ℕ) < 8 := (x 2).isLt; omega⟩ (x 3))

/-- `Slab.norm` of the slab that holds row `r` of the block. -/
def norm (a : FVec Ideal S1x48x64x256 .f32) (b : FVec Ideal S1x144x64x256 .f32)
    (g : FVec Ideal S1536x1536 .bf16) (q : FVec Ideal S1536x256 .f32) (r : Fin 64) (i : Fin 1536) (w : Fin 256) : EReal :=
  Slab.norm (slabH a r) (slabL b r) g q i w

/-- A slab's first result, when its loads are the slab holding row `r` and the whole matrix and bias. -/
theorem high_of_slab (a : FVec Ideal S1x48x64x256 .f32) (b : FVec Ideal S1x144x64x256 .f32)
    (g g' : FVec Ideal S1536x1536 .bf16) (q q' : FVec Ideal S1536x256 .f32) (a' : FVec Ideal S1x48x8x256 .f32)
    (b' : FVec Ideal S1x144x8x256 .f32) (c : Fin 48) (h : Fin 8) (r : Fin 64) (w : Fin 256) (hr : (r : ℕ) = r / 8 * 8 + h)
    (ha : a' = slabH a r) (hb : b' = slabL b r) (hg : g' = g) (hq : q' = q) :
    Ideal.tanh (a' (ix4 0 c h w)) * Ideal.rsqrt (Slab.norm a' b' g' q' ⟨c * 8 + h, by omega⟩ w)
      = Ideal.tanh (a (ix4 0 c r w)) * Ideal.rsqrt (norm a b g q r ⟨c * 8 + r % 8, by omega⟩ w) := by
  have e8 : (r : ℕ) % 8 = h := by omega
  have e : slabH a r (ix4 0 c h w) = a (ix4 0 c r w) := by
    unfold slabH; blk_ext
  simp only [e8]
  rw [ha, hb, hg, hq, e]; rfl

/-- A slab's second result, likewise. -/
theorem low_of_slab (a : FVec Ideal S1x48x64x256 .f32) (b : FVec Ideal S1x144x64x256 .f32)
    (g g' : FVec Ideal S1536x1536 .bf16) (q q' : FVec Ideal S1536x256 .f32) (a' : FVec Ideal S1x48x8x256 .f32)
    (b' : FVec Ideal S1x144x8x256 .f32) (c : Fin 144) (h : Fin 8) (r : Fin 64) (w : Fin 256) (hr : (r : ℕ) = r / 8 * 8 + h)
    (ha : a' = slabH a r) (hb : b' = slabL b r) (hg : g' = g) (hq : q' = q) :
    Ideal.tanh (b' (ix4 0 c h w)) * Ideal.rsqrt (Slab.norm a' b' g' q' ⟨384 + (c * 8 + h), by omega⟩ w)
      = Ideal.tanh (b (ix4 0 c r w)) * Ideal.rsqrt (norm a b g q r ⟨384 + (c * 8 + r % 8), by omega⟩ w) := by
  have e8 : (r : ℕ) % 8 = h := by omega
  have e : slabL b r (ix4 0 c h w) = b (ix4 0 c r w) := by
    unfold slabL; blk_ext
  simp only [e8]
  rw [ha, hb, hg, hq, e]; rfl

/-- The first output block at channel `c`, row `r`, lane `w`: every one of the body's eight stores is one slab's. -/
theorem high (a : FVec Ideal S1x48x64x256 .f32) (b : FVec Ideal S1x144x64x256 .f32)
    (q : FVec Ideal S1536x256 .f32) (g : FVec Ideal S1536x1536 .bf16) (c : Fin 48) (r : Fin 64) (w : Fin 256) :
    out0_4 (F := Ideal) a b q g (ix4 0 c r w)
      = Ideal.tanh (a (ix4 0 c r w)) * Ideal.rsqrt (norm a b g q r ⟨c * 8 + r % 8, by omega⟩ w) := by
  unfold out0_4
  canon_tiles x h
  all_goals
    idx_vars x
    obtain rfl : x0 = 0 := Subsingleton.elim _ _
    obtain rfl : x1 = c := Fin.ext h1.symm
    obtain rfl : x3 = w := Fin.ext h3.symm
    replace h2 : (r : ℕ) = _ := h2
    refine (Slab.high _ _ _ _ _ _ _).trans (high_of_slab _ _ _ _ _ _ _ _ _ _ _ _ (by omega) ?_ ?_ ?_ ?_)
    · funext x; idx_vars x; unfold slabH; pointwise; blk_ext
    · funext x; idx_vars x; unfold slabL; pointwise; blk_ext
    · funext x; pointwise; blk_ext
    · funext x; pointwise; blk_ext

/-- The second output block at channel `c`, row `r`, lane `w`. -/
theorem low (a : FVec Ideal S1x48x64x256 .f32) (b : FVec Ideal S1x144x64x256 .f32)
    (q : FVec Ideal S1536x256 .f32) (g : FVec Ideal S1536x1536 .bf16) (c : Fin 144) (r : Fin 64) (w : Fin 256) :
    out0_5 (F := Ideal) a b q g (ix4 0 c r w)
      = Ideal.tanh (b (ix4 0 c r w)) * Ideal.rsqrt (norm a b g q r ⟨384 + (c * 8 + r % 8), by omega⟩ w) := by
  unfold out0_5
  canon_tiles x h
  all_goals
    idx_vars x
    obtain rfl : x0 = 0 := Subsingleton.elim _ _
    obtain rfl : x1 = c := Fin.ext h1.symm
    obtain rfl : x3 = w := Fin.ext h3.symm
    replace h2 : (r : ℕ) = _ := h2
    refine (Slab.low _ _ _ _ _ _ _).trans (low_of_slab _ _ _ _ _ _ _ _ _ _ _ _ (by omega) ?_ ?_ ?_ ?_)
    · funext x; idx_vars x; unfold slabH; pointwise; blk_ext
    · funext x; idx_vars x; unfold slabL; pointwise; blk_ext
    · funext x; pointwise; blk_ext
    · funext x; pointwise; blk_ext

end Cert.KernelIdeal.Block
-- ==== Proof.Pool.lean ====
/- The kernel's long sums over the big matrix, whose rows meet only the columns of the same row of a slab, are the pool's
   short sums over the channels. -/
module

public import proofs.«01_k».proof.Proof.Host
public import proofs.«01_k».proof.Proof.Block

@[expose] public section

set_option maxRecDepth 16384

noncomputable section

namespace Cert.KernelIdeal.Pool

open Idealize.ShloMosaic Idealize.ShloMosaic.TcCoe Idealize.SL.Sem
open Cert.KernelIdeal Cert.KernelIdeal.Gen

/-- A sum over `8 n` places, whose weight at place `x` is zero unless `x` leaves the remainder `h` by eight, is the sum over
    the `n` places that do. -/
theorem collapse {n N : ℕ} (hN : n * 8 = N) (h : Fin 8) (A : Fin n → EReal) (X : Fin n → Fin 8 → EReal) :
    (∑ x : Fin N, (if (h : ℕ) = x % 8 then A ⟨x / 8, by omega⟩ else 0) * X ⟨x / 8, by omega⟩ ⟨x % 8, by omega⟩)
      = ∑ k, X k h * A k := by
  rw [Fin.sum_univ_tiles n 8 hN]
  refine Finset.sum_congr rfl fun k _ => ?_
  rw [Finset.sum_eq_single h]
  · have e1 : (⟨(k * 8 + h : ℕ) / 8, by omega⟩ : Fin n) = k := Fin.ext (by show (k * 8 + h : ℕ) / 8 = k; omega)
    have e2 : (⟨(k * 8 + h : ℕ) % 8, by omega⟩ : Fin 8) = h := Fin.ext (by show (k * 8 + h : ℕ) % 8 = h; omega)
    simp only [e1, e2]
    rw [if_pos (by omega), mul_comm]
  · intro t _ ht
    have : ¬ (h : ℕ) = (k * 8 + t : ℕ) % 8 := fun e => ht (Fin.ext (by omega))
    simp only [if_neg this, zero_mul]
  · exact fun hh => absurd (Finset.mem_univ _) hh

/-- What the kernel takes the reciprocal square root of at output channel `o`, row `r` of the block, lane `w`: the pooled
    sum over the block's channels, in absolute value. -/
theorem norm (a : FVec Ideal S1x48x64x256 .f32) (b : FVec Ideal S1x144x64x256 .f32) (x2 : FVec Ideal S192 .f32)
    (x3 : FVec Ideal S192x192 .f32)
    (r : Fin 64) (o : Fin 192) (i : Fin 1536) (hi : (i : ℕ) = o * 8 + r % 8) (w : Fin 256) :
    Block.norm a b (Prep.matrixOf x3) (Prep.biasOf x2) r i w
      = FloatOps.absf (F := Ideal) (φ := .f32)
        ((∑ k : Fin 48, Ideal.tanh (a (ix4 0 k r w)) * Ideal.tanh (a (ix4 0 k r w)) * Norm.weight (x3 (ix2 o ⟨k, by omega⟩)))
          + (∑ k : Fin 144, Ideal.tanh (b (ix4 0 k r w)) * Ideal.tanh (b (ix4 0 k r w))
              * Norm.weight (x3 (ix2 o ⟨48 + k, by omega⟩)))
          + Norm.offset (x2 (ix1 o))) := by
  have hgi (k : Fin 1536) : Prep.matrixOf x3 (ix2 i k) = if ((⟨r % 8, by omega⟩ : Fin 8) : ℕ) = k % 8 then
      Norm.weight (x3 (ix2 o ⟨k / 8, by omega⟩)) else (0 : EReal) := by
    refine (Prep.matrix_at x3 i k).trans ?_
    have e1 : (i : ℕ) % 8 = r % 8 := by omega
    have e2 : (⟨(i : ℕ) / 8, by omega⟩ : Fin 192) = o := Fin.ext (by show (i : ℕ) / 8 = o; omega)
    rw [e1, e2]
  have hqi : Prep.biasOf x2 (ix2 i w) = Norm.offset (x2 (ix1 o)) := by
    refine (Prep.bias_at x2 i w).trans ?_
    have e2 : (⟨(i : ℕ) / 8, by omega⟩ : Fin 192) = o := Fin.ext (by show (i : ℕ) / 8 = o; omega)
    rw [e2]
  have ea (k : Fin 48) : Block.slabH a r (ix4 0 k ⟨r % 8, by omega⟩ w) = a (ix4 0 k r w) := by
    unfold Block.slabH; blk_ext
  have eb (k : Fin 144) : Block.slabL b r (ix4 0 k ⟨r % 8, by omega⟩ w) = b (ix4 0 k r w) := by
    unfold Block.slabL; blk_ext
  unfold Block.norm Slab.norm
  rw [hqi]
  have s1 := collapse (n := 48) (N := 384) rfl ⟨r % 8, by omega⟩ (fun k => Norm.weight (x3 (ix2 o ⟨k, by omega⟩)))
    (fun k h => Ideal.tanh (Block.slabH a r (ix4 0 k h w)) * Ideal.tanh (Block.slabH a r (ix4 0 k h w)))
  have s2 := collapse (n := 144) (N := 1152) rfl ⟨r % 8, by omega⟩ (fun k => Norm.weight (x3 (ix2 o ⟨48 + k, by omega⟩)))
    (fun k h => Ideal.tanh (Block.slabL b r (ix4 0 k h w)) * Ideal.tanh (Block.slabL b r (ix4 0 k h w)))
  simp only [ea] at s1
  simp only [eb] at s2
  rw [← s1, ← s2]
  refine congrArg (fun z => FloatOps.absf (F := Ideal) (φ := .f32) (z + Norm.offset (x2 (ix1 o)))) (congrArg₂ (· + ·) ?_ ?_)
  · exact Finset.sum_congr rfl fun x _ => by rw [hgi]
  · refine Finset.sum_congr rfl fun x _ => ?_
    rw [hgi]
    have e1 : (384 + (x : ℕ)) % 8 = x % 8 := by omega
    have e2 : (384 + (x : ℕ)) / 8 = 48 + x / 8 := by omega
    simp only [e1, e2]

end Cert.KernelIdeal.Pool
-- ==== Proof.RefValue.lean ====
/- The reference, read at one index. -/
module

public import proofs.«01_k».proof.Proof.Gen.ReferenceIdeal.Read
public import proofs.«01_k».proof.Proof.Scalar
public import Idealize.ShloMosaic.Lib.Pointwise

@[expose] public section

set_option maxRecDepth 16384

noncomputable section

namespace Cert.ReferenceIdeal.At

open Idealize.ShloMosaic Idealize.ShloMosaic.TcCoe Idealize.SL.Sem
open Cert.ReferenceIdeal Cert.ReferenceIdeal.Gen Cert.ReferenceIdeal.Read

/-- The pooled sum at picture `b`, output channel `o`, row `h`, lane `w`: the weights of channel `o` against the squares
    of every channel's `tanh` there, plus the channel's offset. -/
def pool (x0 : FVec Ideal S8x48x256x256 .f32) (x1 : FVec Ideal S8x144x256x256 .f32) (x2 : FVec Ideal S192 .f32)
    (x3 : FVec Ideal S192x192 .f32) (b : Fin 8) (o : Fin 192) (h w : Fin 256) : EReal :=
  (∑ k : Fin 48, Ideal.tanh (x0 (ix4 b k h w)) * Ideal.tanh (x0 (ix4 b k h w)) * Norm.weight (x3 (ix2 o ⟨k, by omega⟩)))
    + (∑ k : Fin 144, Ideal.tanh (x1 (ix4 b k h w)) * Ideal.tanh (x1 (ix4 b k h w))
        * Norm.weight (x3 (ix2 o ⟨48 + k, by omega⟩)))
    + Norm.offset (x2 (ix1 o))

/-- The pooled sum is positive: nothing in the reference's square root or in its absolute value is a corner. -/
theorem pool_pos (x0 : FVec Ideal S8x48x256x256 .f32) (x1 : FVec Ideal S8x144x256x256 .f32) (x2 : FVec Ideal S192 .f32)
    (x3 : FVec Ideal S192x192 .f32) (b : Fin 8) (o : Fin 192) (h w : Fin 256) : 0 < pool x0 x1 x2 x3 b o h w :=
  Norm.pool_pos _ _ _ _ _

/-- The reference's first result at one index. -/
theorem high (x0 : FVec Ideal S8x48x256x256 .f32) (x1 : FVec Ideal S8x144x256x256 .f32) (x2 : FVec Ideal S192 .f32)
    (x3 : FVec Ideal S192x192 .f32) (b : Fin 8) (c : Fin 48) (h w : Fin 256) :
    val_main_v25 (F := Ideal) x0 x1 x2 x3 (ix4 b c h w)
      = Ideal.div (Ideal.tanh (x0 (ix4 b c h w)))
          (Ideal.sqrt (FloatOps.absf (F := Ideal) (φ := .f32) (pool x0 x1 x2 x3 b ⟨c, by omega⟩ h w))) := by
  pointwise [val_main_v27, val_main_v26, val_main_v25, val_main_v24, val_main_v23, val_main_v22, val_main_v21,
    val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2, val_main_cst_3]
  rfl

/-- The reference's second result at one index: its channels follow the first's 48. -/
theorem low (x0 : FVec Ideal S8x48x256x256 .f32) (x1 : FVec Ideal S8x144x256x256 .f32) (x2 : FVec Ideal S192 .f32)
    (x3 : FVec Ideal S192x192 .f32) (b : Fin 8) (c : Fin 144) (h w : Fin 256) :
    val_main_v27 (F := Ideal) x0 x1 x2 x3 (ix4 b c h w)
      = Ideal.div (Ideal.tanh (x1 (ix4 b c h w)))
          (Ideal.sqrt (FloatOps.absf (F := Ideal) (φ := .f32) (pool x0 x1 x2 x3 b ⟨48 + c, by omega⟩ h w))) := by
  pointwise [val_main_v27, val_main_v26, val_main_v25, val_main_v24, val_main_v23, val_main_v22, val_main_v21,
    val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2, val_main_cst_3]
  rfl

end Cert.ReferenceIdeal.At
-- ==== Proof.Point.lean ====
/- One block of each result, as the kernel computes it, is that block of the reference's result. -/
module

public import proofs.«01_k».proof.Proof.Pool
public import proofs.«01_k».proof.Proof.RefValue

@[expose] public section

set_option maxRecDepth 16384

noncomputable section

namespace Cert.KernelIdeal.Point

open Idealize.ShloMosaic Idealize.ShloMosaic.TcCoe Idealize.SL.Sem
open Cert.KernelIdeal Cert.KernelIdeal.Gen

/- The block `a`, `b` of the inputs stands at picture `p`; its row `r` is the picture's row `R r`. -/
variable (x0 : FVec Ideal S8x48x256x256 .f32) (x1 : FVec Ideal S8x144x256x256 .f32) (x2 : FVec Ideal S192 .f32)
  (x3 : FVec Ideal S192x192 .f32) (a : FVec Ideal S1x48x64x256 .f32) (b : FVec Ideal S1x144x64x256 .f32)
  (p : Fin 8) (R : Fin 64 → Fin 256)
  (ha : ∀ (k : Fin 48) (r : Fin 64) (w : Fin 256), a (ix4 0 k r w) = x0 (ix4 p k (R r) w))
  (hb : ∀ (k : Fin 144) (r : Fin 64) (w : Fin 256), b (ix4 0 k r w) = x1 (ix4 p k (R r) w))

include ha hb

/-- What the kernel normalizes by at output channel `o` is the reference's pooled sum there, in absolute value. -/
theorem norm (r : Fin 64) (o : Fin 192) (i : Fin 1536) (hi : (i : ℕ) = o * 8 + r % 8) (w : Fin 256) :
    Block.norm a b (Prep.matrixOf x3) (Prep.biasOf x2) r i w
      = FloatOps.absf (F := Ideal) (φ := .f32) (ReferenceIdeal.At.pool x0 x1 x2 x3 p o (R r) w) := by
  rw [Pool.norm a b x2 x3 r o i hi w]
  simp only [ha, hb]
  rfl

/-- The first result's block is the reference's. -/
theorem high (c : Fin 48) (r : Fin 64) (w : Fin 256) :
    out0_4 (F := Ideal) a b (Prep.biasOf x2) (Prep.matrixOf x3) (ix4 0 c r w)
      = ReferenceIdeal.Read.val_main_v25 (F := Ideal) x0 x1 x2 x3 (ix4 p c (R r) w) := by
  rw [Block.high, norm x0 x1 x2 x3 a b p R ha hb r ⟨c, by omega⟩ _ rfl w, ReferenceIdeal.At.high, ha,
    Norm.abs_of_pos _ (ReferenceIdeal.At.pool_pos ..), Norm.mul_rsqrt _ _ (ReferenceIdeal.At.pool_pos ..)]

/-- The second result's block is the reference's. -/
theorem low (c : Fin 144) (r : Fin 64) (w : Fin 256) :
    out0_5 (F := Ideal) a b (Prep.biasOf x2) (Prep.matrixOf x3) (ix4 0 c r w)
      = ReferenceIdeal.Read.val_main_v27 (F := Ideal) x0 x1 x2 x3 (ix4 p c (R r) w) := by
  rw [Block.low, norm x0 x1 x2 x3 a b p R ha hb r ⟨48 + c, by omega⟩ _
      (by show 384 + (c * 8 + r % 8 : ℕ) = (48 + c) * 8 + r % 8; omega) w, ReferenceIdeal.At.low, hb,
    Norm.abs_of_pos _ (ReferenceIdeal.At.pool_pos ..), Norm.mul_rsqrt _ _ (ReferenceIdeal.At.pool_pos ..)]

end Cert.KernelIdeal.Point
-- ==== Proof.Result.lean ====
/- The kernel's two result arrays after its run are the reference's two results of the kernel's arguments. -/
module

public import proofs.«01_k».proof.Proof.Point
public import proofs.«01_k».proof.Proof.Gen.KernelIdeal.Value
public import Idealize.ShloMosaic.Lib.Pipeline.ValueKit

@[expose] public section

set_option maxRecDepth 16384

noncomputable section

namespace Cert.KernelIdeal.Result

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- Where every window stands at grid point `t`: picture `t / 4`, the `t % 4`-th 64 rows of it; the matrix and the bias whole. -/
theorem idx : ∀ t : Fin cfg0.N,
    win0_0.index t = ![t.val / 4, 0, t.val % 4, 0] ∧ win0_1.index t = ![t.val / 4, 0, t.val % 4, 0]
      ∧ win0_2.index t = ![0, 0] ∧ win0_3.index t = ![0, 0]
      ∧ win0_4.index t = ![t.val / 4, 0, t.val % 4, 0] ∧ win0_5.index t = ![t.val / 4, 0, t.val % 4, 0]
      ∧ t.val / 4 < 8 :=
  (by decide +kernel : ∀ t : Fin grid0.N, _)

/-- The picture grid point `t` works on. -/
def pic (t : Fin cfg0.N) : Fin 8 := ⟨t.val / 4, (idx t).2.2.2.2.2.2⟩

/-- The picture's row that is row `r` of the block at grid point `t`. -/
def row (t : Fin cfg0.N) (r : Fin 64) : Fin 256 := ⟨t.val % 4 * 64 + r, by omega⟩

/-- The number of the picture a grid point works on. -/
theorem pic_val (t : Fin cfg0.N) : (pic t : ℕ) = t.val / 4 := rfl

/-- The number of the picture's row that row `r` of a block is. -/
theorem row_val (t : Fin cfg0.N) (r : Fin 64) : (row t r : ℕ) = t.val % 4 * 64 + r := rfl

/-- The block of the first input at grid point `t`. -/
theorem block0 (c : Dev nD) (t : Fin cfg0.N) (k : Fin 48) (r : Fin 64) (w : Fin 256) :
    (show FVec Ideal S1x48x64x256 .f32 from iblk m c 0 t) (ix4 0 k r w)
      = (show FVec Ideal S8x48x256x256 .f32 from m ((c : Thread nD τ).loc main_arg0))
          (ix4 (pic t) k (row t r) w) := by
  show iblk m c 0 t (ix4 0 k r w) = _
  blk_ext [iblk, V_main_arg0, idx t, pic_val, row_val]

/-- The block of the second input at grid point `t`. -/
theorem block1 (c : Dev nD) (t : Fin cfg0.N) (k : Fin 144) (r : Fin 64) (w : Fin 256) :
    (show FVec Ideal S1x144x64x256 .f32 from iblk m c 1 t) (ix4 0 k r w)
      = (show FVec Ideal S8x144x256x256 .f32 from m ((c : Thread nD τ).loc main_arg1))
          (ix4 (pic t) k (row t r) w) := by
  show iblk m c 1 t (ix4 0 k r w) = _
  blk_ext [iblk, V_main_arg1, idx t, pic_val, row_val]

/-- The bias block is the whole bias, at every grid point. -/
theorem block2 (c : Dev nD) (t : Fin cfg0.N) : iblk m c 2 t = Prep.biasOf (m ((c : Thread nD τ).loc main_arg2)) := by
  rw [← Prep.bias m c]
  blk_ext! [iblk, idx t]

/-- The matrix block is the whole matrix, at every grid point. -/
theorem block3 (c : Dev nD) (t : Fin cfg0.N) : iblk m c 3 t = Prep.matrixOf (m ((c : Thread nD τ).loc main_arg3)) := by
  rw [← Prep.matrix m c]
  blk_ext! [iblk, idx t]

/-- The first result array is the reference's first result. -/
theorem high (c : Dev nD) : (dats m 0 c).arrAt 4 cfg0.N
    = ReferenceIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, block2, block3]
  obtain ⟨z, k, r, w, rfl⟩ : ∃ (z : Fin 1) (k : Fin 48) (r : Fin 64) (w : Fin 256), y = (ix4 z k r w : S1x48x64x256.Idx) :=
    ⟨y 0, y 1, y 2, y 3, eq_ix4 _⟩
  obtain rfl : z = 0 := Subsingleton.elim _ _
  have e : (win0_4.blk t).view.emb (ix4 0 k r w) = ix4 (pic t) k (row t r) w := by blk_ext [idx t, pic_val, row_val]
  rw [e]
  exact Point.high _ _ _ _ _ _ (pic t) (row t) (block0 m c t) (block1 m c t) k r w

/-- The second result array is the reference's second result. -/
theorem low (c : Dev nD) : (dats m 0 c).arrAt 5 cfg0.N
    = ReferenceIdeal.Read.val_main_v27 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5, block2, block3]
  obtain ⟨z, k, r, w, rfl⟩ : ∃ (z : Fin 1) (k : Fin 144) (r : Fin 64) (w : Fin 256), y = (ix4 z k r w : S1x144x64x256.Idx) :=
    ⟨y 0, y 1, y 2, y 3, eq_ix4 _⟩
  obtain rfl : z = 0 := Subsingleton.elim _ _
  have e : (win0_5.blk t).view.emb (ix4 0 k r w) = ix4 (pic t) k (row t r) w := by blk_ext [idx t, pic_val, row_val]
  rw [e]
  exact Point.low _ _ _ _ _ _ (pic t) (row t) (block0 m c t) (block1 m c t) k r w

end Cert.KernelIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference leaves its arguments alone and every semaphore at zero. -/
theorem reference_frame : Cert.quiescent_ReferenceIdeal := by
  intro m g _
  refine (θ_run Cert.ReferenceIdeal.defs _ _).mono ?_ (Cert.ReferenceIdeal.Value.run m g)
  exact fun r ended => ⟨fun c => (ended c).2.2, sem_eq_zero_of_no_sems (by decide) r.2⟩

/-- From the same arguments the kernel and the reference, over the extended reals, leave the same two results. -/
theorem algebraic : Cert.algebraic_KernelIdeal_ReferenceIdeal := by
  pair_intro
  · run_from Cert.KernelIdeal.Value.run_blocks m g
  · run_from Cert.ReferenceIdeal.Value.run m' g'
    · exact (Cert.ReferenceIdeal.Read.val_main_v25_eq ..).trans (Cert.KernelIdeal.Result.high m c).symm
    · exact (Cert.ReferenceIdeal.Read.val_main_v27_eq ..).trans (Cert.KernelIdeal.Result.low m c).symm

/-- The three frames, the unchanged program read over the extended reals, and the equality of both results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
